-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4096x32 : Shape := ⟨2, ![4096, 32]⟩
abbrev S1024x32 : Shape := ⟨2, ![1024, 32]⟩
abbrev S_ : Shape := ⟨0, ![]⟩

class Facts : Prop where
  bcast_S_S4096x32 : S_.BroadcastsInDim S4096x32 (![] : Fin 0 → Fin S4096x32.rank)
  bcast_S_S1024x32 : S_.BroadcastsInDim S1024x32 (![] : Fin 0 → Fin S1024x32.rank)

variable [Facts]

def fn {F : FTy → Type} [FloatOps F] (main_arg0 : FVec F S4096x32 .f32) (main_arg1 : FVec F S1024x32 .f32) : IVec S4096x32 1 × IVec S1024x32 1 :=
  let main_cst : FVec F S_ .f32 := constant S_ .f32 0xFF800000#32
  let main_v0 : FVec F S4096x32 .f32 := broadcastInDim S4096x32 ![] bcast_S_S4096x32 main_cst
  let main_v1 : IVec S4096x32 1 := cmpf .ogt main_arg0 main_v0
  let main_cst_0 : FVec F S_ .f32 := constant S_ .f32 0x7F800000#32
  let main_v2 : FVec F S4096x32 .f32 := broadcastInDim S4096x32 ![] bcast_S_S4096x32 main_cst_0
  let main_v3 : IVec S4096x32 1 := cmpf .olt main_arg0 main_v2
  let main_v4 : IVec S4096x32 1 := andi main_v1 main_v3
  let main_cst_1 : FVec F S_ .f32 := constant S_ .f32 0xFF800000#32
  let main_v5 : FVec F S1024x32 .f32 := broadcastInDim S1024x32 ![] bcast_S_S1024x32 main_cst_1
  let main_v6 : IVec S1024x32 1 := cmpf .ogt main_arg1 main_v5
  let main_cst_2 : FVec F S_ .f32 := constant S_ .f32 0x7F800000#32
  let main_v7 : FVec F S1024x32 .f32 := broadcastInDim S1024x32 ![] bcast_S_S1024x32 main_cst_2
  let main_v8 : IVec S1024x32 1 := cmpf .olt main_arg1 main_v7
  let main_v9 : IVec S1024x32 1 := andi main_v6 main_v8
  (main_v4, main_v9)
-- ==== Kernel.lean ====
abbrev S4096x32 : Shape := ⟨2, ![4096, 32]⟩
abbrev S1024x32 : Shape := ⟨2, ![1024, 32]⟩
abbrev S4096 : Shape := ⟨1, ![4096]⟩
abbrev S1024 : Shape := ⟨1, ![1024]⟩
abbrev S1024x99 : Shape := ⟨2, ![1024, 99]⟩
abbrev S1024x96 : Shape := ⟨2, ![1024, 96]⟩
abbrev S1024x1 : Shape := ⟨2, ![1024, 1]⟩
abbrev S1024x3 : Shape := ⟨2, ![1024, 3]⟩
abbrev S1024x1024 : Shape := ⟨2, ![1024, 1024]⟩
abbrev S1x1024x1024 : Shape := ⟨3, ![1, 1024, 1024]⟩
abbrev S1 : Shape := ⟨1, ![1]⟩
abbrev S1x1x1 : Shape := ⟨3, ![1, 1, 1]⟩
abbrev S1x1024 : Shape := ⟨2, ![1, 1024]⟩
abbrev S96x1024 : Shape := ⟨2, ![96, 1024]⟩
abbrev S32x1024 : Shape := ⟨2, ![32, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x32, .f32⟩
  | .hbm, ⟨1, _⟩ => ⟨S1024x32, .f32⟩
  | .hbm, ⟨2, _⟩ => ⟨S4096, .i32⟩
  | .local _ .vmem, ⟨0, _⟩ => ⟨S1024x32, .f32⟩
  | .local _ .vmem, ⟨1, _⟩ => ⟨S1024x32, .f32⟩
  | .local _ .vmem, ⟨2, _⟩ => ⟨S1024x32, .f32⟩
  | .local _ .vmem, ⟨3, _⟩ => ⟨S1024, .i32⟩
  | .local _ .vmem, ⟨4, _⟩ => ⟨S1024, .i32⟩
  | .local _ .vmem, ⟨5, _⟩ => ⟨S1024x99, .bf16⟩
  | .local _ .vmem, ⟨6, _⟩ => ⟨S1024x96, .bf16⟩
  | _, _ => ⟨S4096x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S1024x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S4096x32 : Shape := ⟨2, ![4096, 32]⟩
abbrev S1024x32 : Shape := ⟨2, ![1024, 32]⟩
abbrev S4096x1x32 : Shape := ⟨3, ![4096, 1, 32]⟩
abbrev S1x1024x32 : Shape := ⟨3, ![1, 1024, 32]⟩
abbrev S4096x1024x32 : Shape := ⟨3, ![4096, 1024, 32]⟩
abbrev S_ : Shape := ⟨0, ![]⟩
abbrev S4096x1024 : Shape := ⟨2, ![4096, 1024]⟩
abbrev S4096 : Shape := ⟨1, ![4096]⟩

abbrev nBuf : Space → Nat
  | .hbm => 17
  | .vmem => 0
  | .smem => 0
  | _ => 0

abbrev bufTy : (tb : Table) → Fin (tcTables nBuf tb) → BufTy
  | .hbm, ⟨0, _⟩ => ⟨S4096x32, .f32⟩
  | .hbm, ⟨1, _⟩ => ⟨S1024x32, .f32⟩
  | .hbm, ⟨2, _⟩ => ⟨S4096x1x32, .f32⟩
  | .hbm, ⟨3, _⟩ => ⟨S1x1024x32, .f32⟩
  | .hbm, ⟨4, _⟩ => ⟨S4096x1024x32, .f32⟩
  | .hbm, ⟨5, _⟩ => ⟨S4096x1024x32, .f32⟩
  | .hbm, ⟨6, _⟩ => ⟨S4096x1024x32, .f32⟩
  | .hbm, ⟨7, _⟩ => ⟨S_, .f32⟩
  | .hbm, ⟨8, _⟩ => ⟨S4096x1024x32, .f32⟩
  | .hbm, ⟨9, _⟩ => ⟨S4096x1024x32, .f32⟩
  | .hbm, ⟨10, _⟩ => ⟨S_, .f32⟩
  | .hbm, ⟨11, _⟩ => ⟨S4096x1024, .f32⟩
  | .hbm, ⟨12, _⟩ => ⟨S4096x1024, .i32⟩
  | .hbm, ⟨13, _⟩ => ⟨S_, .f32⟩
  | .hbm, ⟨14, _⟩ => ⟨S_, .i32⟩
  | .hbm, ⟨15, _⟩ => ⟨S4096, .f32⟩
  | .hbm, ⟨16, _⟩ => ⟨S4096, .i32⟩
  | _, _ => ⟨S4096x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_call0_v0 : Ref sig .tc := ⟨.hbm, 12, rfl⟩
abbrev main_call0_cst : Ref sig .tc := ⟨.hbm, 13, rfl⟩
abbrev main_call0_c : Ref sig .tc := ⟨.hbm, 14, rfl⟩
abbrev main_call0_v1_0 : Ref sig .tc := ⟨.hbm, 15, rfl⟩
abbrev main_v8 : Ref sig .tc := ⟨.hbm, 16, rfl⟩

abbrev nD : Nat := 1
abbrev τ : Topo := Topo.v7x

variable {F : FTy → Type} [FloatOps F]
-- ==== Proof.Step.lean ====
/-
  The kernel's body at one grid point, run over any float values `F`.
-/
module

public import proofs.«01_k».proof.Proof.Gen.KernelIdeal.Frame
public import proofs.«01_k».proof.Proof.Gen.KernelIdeal.Skeleton
public import Idealize.ShloMosaic.Lib.Pipeline.Value

@[expose] public section

set_option maxRecDepth 16384

noncomputable section

namespace Cert.Nearest

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The column numbers `0 … 1023`, the same in every row. -/
def cols : IVec S1024x1024 32 := iota .tc S1024x1024 32 [1] iota_S1024x1024_d1_w32

/-- The word that decides the kernel's branch on a block `x` of points and a table `b`: one if more than 1024
    near-minimal entries were counted over the block. -/
abbrev manyClose (x : Vec F S1024x32 .f32) (b : Vec F S1024x99 .bf16) : BitVec 1 :=
  Scalar.cmpi .ne (Scalar.extui (Scalar.cmpi .sgt (extractAt ![0, 0, 0] (k0_pay16 x b) inpos_S1x1x1_p0_0_0) 1024#32)) 0#32

/-- The branch that compares each point's two candidates at full precision: its row of indices. -/
def refined (x : Vec F S1024x32 .f32) (b : Vec F S1024x99 .bf16) (g : Vec F S1024x96 .bf16) : IVec S1x1024 32 :=
  let near := k0_pay13 x b
  let first := k0_pay15 x b
  let d1 := k0_pay3 x cols first g
  let d2 := k0_pay4 x near cols first g
  k0_pay17 x b (k0_pay1 near cols first) (k0_pay9 d1 (k0_pay7 d1 (k0_pay5 x cols first g)))
    (k0_pay10 d2 (k0_pay8 d2 (k0_pay6 x near cols first g)))

/-- What the kernel stores for one block of points `x`, from the tables `b` and `g`. -/
def outBlock (x : Vec F S1024x32 .f32) (b : Vec F S1024x99 .bf16) (g : Vec F S1024x96 .bf16) : IVec S1024 32 :=
  k0_pay19 (if manyClose x b = 1#1 then refined x b g else k0_pay18 x b)

/-- What is stored, branch by branch. -/
theorem outBlock_cases (x : Vec F S1024x32 .f32) (b : Vec F S1024x99 .bf16) (g : Vec F S1024x96 .bf16) :
    (manyClose x b = 1#1 ∧ outBlock x b g = k0_pay19 (refined x b g))
      ∨ (¬ manyClose x b = 1#1 ∧ outBlock x b g = k0_pay19 (k0_pay18 x b)) := by
  unfold outBlock
  by_cases h : manyClose x b = 1#1
  · exact .inl ⟨h, by rw [if_pos h]⟩
  · exact .inr ⟨h, by rw [if_neg h]⟩

/-- The condition of the body's first branch: the grid coordinate is zero. -/
abbrev AtStart (i : grid0.Coords) : Prop :=
  (Scalar.cmpi .ne (Scalar.extui (Scalar.cmpi .eq (BitVec.ofNat 32 (i 0).val) 0#32)) 0#32) = 1#1

/-- It holds at point 0 and at no other. -/
theorem atStart_iff (t : Fin cfg0.N) : AtStart (grid0.coords t) ↔ t.val = 0 :=
  (by decide +kernel : ∀ t : Fin grid0.N, AtStart (grid0.coords t) ↔ t.val = 0) t

/-- The offsets of a whole-buffer access are zero, in one dimension and in two. -/
theorem zeros1 : (![0] : Fin 1 → ℕ) = fun _ => 0 := by decide
theorem zeros2 : (![0, 0] : Fin 2 → ℕ) = fun _ => 0 := by decide

/-- A load of a whole buffer that holds `x` reads `x`. -/
theorem load_whole {sh : Shape} {e : EltTy} (a : Memref sig .tc .vmem sh e) (h : a.IsWhole) (off : Fin sh.rank → ℕ) (hz : off = fun _ => 0)
    (inb : ∀ k, off k + sh.size k ≤ sh.size k) (x : Vec F sh e) :
    a.view.readAt (Elt F) (Rect.unit (s := sh) off sh.size inb).toLoadRect (h.unread x) = x := by
  rw [View.readAt_eq_ld, h.read_unread, View.ld_unit_zero hz]

/-- A store over a whole buffer leaves exactly what was stored. -/
theorem store_whole {sh : Shape} {e : EltTy} (a : Memref sig .tc .vmem sh e) (off : Fin sh.rank → ℕ) (hz : off = fun _ => 0)
    (inb : ∀ k, off k + sh.size k ≤ sh.size k) (f : a.view.ty.Contents (Elt F)) (w : Vec F sh e) :
    a.view.read (Elt F) (a.view.writes (Elt F) f [(⟨Rect.unit (s := sh) off sh.size inb, w⟩ : View.Piece (Elt F) sh e)]) = w := by
  rw [View.read_writes_eq_canon _ _ _ (fun y => ⟨_, List.mem_singleton_self _, View.mem_set_unit_zero hz inb y⟩), View.canon_unit_zero hz]

set_option maxHeartbeats 2000000 in
/-- The body at a point after the first: the tables are read as they stand, and the block's indices are stored. -/
theorem laterStep (c : Dev nD) (i : grid0.Coords) (arg1 : Memref sig .tc .vmem S1024x32 .f32) (harg1 : arg1.IsWhole) (arg2 : Memref sig .tc .vmem S1024x32 .f32) (harg2 : arg2.IsWhole) (arg3 : Memref sig .tc .vmem S1024 .i32) (harg3 : arg3.IsWhole) (arg4 : Memref sig .tc .vmem S1024x99 .bf16) (harg4 : arg4.IsWhole) (arg5 : Memref sig .tc .vmem S1024x96 .bf16) (harg5 : arg5.IsWhole) (hc : ¬ AtStart i)
    (x y : Vec F S1024x32 .f32) (b : Vec F S1024x99 .bf16) (g : Vec F S1024x96 .bf16) (K : PUnit → sProp 𝕄) :
    iprop(owns (c : Thread nD τ) arg1 fullShare x ∗ owns (c : Thread nD τ) arg2 fullShare y ∗ (∃ d, owns (c : Thread nD τ) arg3 fullShare d) ∗ owns (c : Thread nD τ) arg4 fullShare b ∗ owns (c : Thread nD τ) arg5 fullShare g
        ∗ (iprop(owns (c : Thread nD τ) arg1 fullShare x ∗ owns (c : Thread nD τ) arg2 fullShare y ∗ owns (c : Thread nD τ) arg3 fullShare (outBlock x b g) ∗ owns (c : Thread nD τ) arg4 fullShare b ∗ owns (c : Thread nD τ) arg5 fullShare g) -∗ K ⟨⟩))
      ⊢ wp frame (wpE (defs₀ (F := F)) Variants.none c none) Set.univ (cc0__nn_kernel i arg1 harg1 arg2 harg2 arg3 harg3 arg4 harg4 arg5 harg5) K := by
  simp only [cc0__nn_kernel_eq_skeleton]; unfold cc0__nn_kernel_skel
  simp only [k0_part4_eq_skeleton]; unfold k0_part4_skel
  simp only [k0_part1_eq_skeleton, k0_part2_eq_skeleton, k0_part3_eq_skeleton]; unfold k0_part1_skel k0_part2_skel k0_part3_skel
  unfold owns
  iintro ⟨⟨%f0, %hf0, H0⟩, ⟨%f1, %hf1, H1⟩, ⟨%d2, %f2, -, H2⟩, ⟨%f3, %hf3, H3⟩, ⟨%f4, %hf4, H4⟩, Hk⟩
  obtain rfl := harg1.eq_unread hf0; obtain rfl := harg2.eq_unread hf1
  obtain rfl := harg4.eq_unread hf3; obtain rfl := harg5.eq_unread hf4
  have e1 := load_whole arg1 harg1 _ zeros2 inb_S1024x32_S1024x32_0_0 x
  have e4 := load_whole arg4 harg4 _ zeros2 inb_S1024x99_S1024x99_0_0 b
  have e5 := load_whole arg5 harg5 _ zeros2 inb_S1024x96_S1024x96_0_0 g
  rcases outBlock_cases x b g with ⟨hv, ho⟩ | ⟨hv, ho⟩ <;>
  ( sl_exec (disch := first | sl_exact hc | (rw [e1, e4]; sl_exact hv))
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; swap; · iexact H2
      ipureintro; refine (store_whole arg3 _ zeros1 _ _ _).trans ?_
      simp only [ho, refined, cols]
    isplitl [H3]
    · iexists _; isplitr; · ipureintro; exact harg4.read_unread _
      iexact H3
    iexists _; isplitr; · ipureintro; exact harg5.read_unread _
    iexact H4 )

set_option maxHeartbeats 2000000 in
/-- The body at the first point: it fills both tables from the centroids `y`, whatever they held, and then stores the
    block's indices as every other point does. -/
theorem firstStep (c : Dev nD) (i : grid0.Coords) (arg1 : Memref sig .tc .vmem S1024x32 .f32) (harg1 : arg1.IsWhole) (arg2 : Memref sig .tc .vmem S1024x32 .f32) (harg2 : arg2.IsWhole) (arg3 : Memref sig .tc .vmem S1024 .i32) (harg3 : arg3.IsWhole) (arg4 : Memref sig .tc .vmem S1024x99 .bf16) (harg4 : arg4.IsWhole) (arg5 : Memref sig .tc .vmem S1024x96 .bf16) (harg5 : arg5.IsWhole) (hc : AtStart i)
    (x y : Vec F S1024x32 .f32) (K : PUnit → sProp 𝕄) :
    iprop(owns (c : Thread nD τ) arg1 fullShare x ∗ owns (c : Thread nD τ) arg2 fullShare y ∗ (∃ d, owns (c : Thread nD τ) arg3 fullShare d) ∗ (∃ d, owns (c : Thread nD τ) arg4 fullShare d) ∗ (∃ d, owns (c : Thread nD τ) arg5 fullShare d)
        ∗ (iprop(owns (c : Thread nD τ) arg1 fullShare x ∗ owns (c : Thread nD τ) arg2 fullShare y ∗ owns (c : Thread nD τ) arg3 fullShare (outBlock x (k0_pay11 y) (k0_pay12 y)) ∗ owns (c : Thread nD τ) arg4 fullShare (k0_pay11 y) ∗ owns (c : Thread nD τ) arg5 fullShare (k0_pay12 y)) -∗ K ⟨⟩))
      ⊢ wp frame (wpE (defs₀ (F := F)) Variants.none c none) Set.univ (cc0__nn_kernel i arg1 harg1 arg2 harg2 arg3 harg3 arg4 harg4 arg5 harg5) K := by
  simp only [cc0__nn_kernel_eq_skeleton]; unfold cc0__nn_kernel_skel
  simp only [k0_part4_eq_skeleton]; unfold k0_part4_skel
  simp only [k0_part1_eq_skeleton, k0_part2_eq_skeleton, k0_part3_eq_skeleton]; unfold k0_part1_skel k0_part2_skel k0_part3_skel
  unfold owns
  iintro ⟨⟨%f0, %hf0, H0⟩, ⟨%f1, %hf1, H1⟩, ⟨%d2, %f2, -, H2⟩, ⟨%d3, %f3, -, H3⟩, ⟨%d4, %f4, -, H4⟩, Hk⟩
  obtain rfl := harg1.eq_unread hf0; obtain rfl := harg2.eq_unread hf1
  have e1 := load_whole arg1 harg1 _ zeros2 inb_S1024x32_S1024x32_0_0 x
  have e2 := load_whole arg2 harg2 _ zeros2 inb_S1024x32_S1024x32_0_0 y
  have e4 : arg4.view.readCov (Val := Elt F) [⟨Rect.unit (s := S1024x99) ![0, 0] S1024x99.size inb_S1024x99_S1024x99_0_0, k0_pay11 y⟩]
      (Rect.unit (s := S1024x99) ![0, 0] S1024x99.size inb_S1024x99_S1024x99_0_0).toLoadRect = k0_pay11 y := View.readCov_unit_zero _ zeros2 _ _
  have e5 : arg5.view.readCov (Val := Elt F) [⟨Rect.unit (s := S1024x96) ![0, 0] S1024x96.size inb_S1024x96_S1024x96_0_0, k0_pay12 y⟩]
      (Rect.unit (s := S1024x96) ![0, 0] S1024x96.size inb_S1024x96_S1024x96_0_0).toLoadRect = k0_pay12 y := View.readCov_unit_zero _ zeros2 _ _
  rcases outBlock_cases x (k0_pay11 y) (k0_pay12 y) with ⟨hv, ho⟩ | ⟨hv, ho⟩ <;>
  ( sl_exec (disch := first | sl_exact hc | (sl_unfold_words; rw [e4]; sl_exact hv))
    sl_step
    sl_unfold_words
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; swap; · iexact H2
      ipureintro; refine (store_whole arg3 _ zeros1 _ _ _).trans ?_
      simp only [ho, e4, e5, refined, cols]
    isplitl [H3]
    · iexists _; isplitr; swap; · iexact H3
      ipureintro; exact store_whole arg4 _ zeros2 _ _ _
    iexists _; isplitr; swap; · iexact H4
    ipureintro; exact store_whole arg5 _ zeros2 _ _ _ )

end Cert.Nearest
-- ==== Proof.Run.lean ====
/-
  The run of the kernel over any float values `F`: the proof data of its one pipeline, the body obligation, the launch.

  The two scratch tables are filled from the centroids at point 0 and carried, unchanged, to the later points: the
  invariant `carried` says so. After the run the result array is what the pipeline wrote back, block by block.
-/
module

public import proofs.«01_k».proof.Proof.Step

@[expose] public section

set_option maxRecDepth 16384

noncomputable section

namespace Cert.Nearest

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The block of points the pipeline stages at grid point `t`. -/
abbrev points (c : Dev nD) (t : Fin cfg0.N) : Vec F S1024x32 .f32 := iblk m c 0 t

/-- The centroids, as the pipeline stages them at every grid point. -/
def centroids (c : Dev nD) : Vec F S1024x32 .f32 := m ((c : Thread nD τ).loc main_arg1)

/-- The centroids' window is the whole array at every grid point. -/
theorem iblk_centroids (c : Dev nD) (t : Fin cfg0.N) : iblk m c 1 t = centroids m c := by
  have hz : (fun a => (win0_1.index t) a * main_arg1.ty.shape.size a) = fun _ => 0 := by
    funext a; revert a t; decide +kernel
  exact Memref.read_access_unit_zero (Elt F) main_arg1 hz (fun a => le_of_eq (by
    rw [show win0_1.index t a * main_arg1.ty.shape.size a = 0 from congrFun hz a, Nat.zero_add])) _

/-- The two scratch operands, as the body is passed them. -/
abbrev scratch0 : Memref sig .tc .vmem S1024x99 .bf16 := Memref.whole cc0_scratch0
abbrev scratch1 : Memref sig .tc .vmem S1024x96 .bf16 := Memref.whole cc0_scratch1

/-- What is carried from a point to the next: both scratch buffers hold the centroids' tables, and the generator's
    register holds anything. -/
def carried (c : Dev nD) : sProp 𝕄 :=
  iprop((owns (c : Thread nD τ) scratch0 fullShare (k0_pay11 (centroids m c)) ∗ owns (c : Thread nD τ) scratch1 fullShare (k0_pay12 (centroids m c)))
    ∗ (∃ r, prngReg c r))

/-- The kernel's scratch before its first point, as memrefs owned at some contents. -/
theorem fresh_eq (c : Dev nD) :
    (Pipeline.ΦA spec0 c : sProp 𝕄)
      = iprop(((∃ d, owns (c : Thread nD τ) scratch0 fullShare d) ∗ (∃ d, owns (c : Thread nD τ) scratch1 fullShare d)) ∗ (∃ r, prngReg c r)) := by
  unfold Pipeline.ΦA; rw [scopedRest0_eq]; simp only [scratch0, scratch1, owns_whole]; try rfl

/-- What is carried may be forgotten. -/
theorem carried_fresh (c : Dev nD) : carried m c ⊢ Pipeline.ΦA spec0 c := by
  rw [fresh_eq]; unfold carried
  iintro ⟨⟨H0, H1⟩, Hg⟩
  isplitl [H0 H1]
  · isplitl [H0]; · iexists _; iexact H0
    iexists _; iexact H1
  iexact Hg

/-- The proof data of the pipeline on core `c`: each input's buffer keeps its block, the result's block is `outBlock` of the
    block of points and the tables, and the tables are carried from point 0 on. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outBlock (points m c t) (k0_pay11 (centroids m c)) (k0_pay12 (centroids m c))
  Φ t := if t.val = 0 then Pipeline.ΦA spec0 c else carried m c
  q _ := fullShare
  owed _ := 0

theorem A_eq (c : Dev nD) (w : Fin cfg0.W) : (dats m 0 c).A w = V m c (Pipeline.arrRef spec0 w) := by
  dsimp only [dats]

theorem after_points (c : Dev nD) (t : Fin cfg0.N) : (dats m 0 c).after 0 t = iblk m c 0 t := by dsimp only [dats]
theorem after_centroids (c : Dev nD) (t : Fin cfg0.N) : (dats m 0 c).after 1 t = iblk m c 1 t := by dsimp only [dats]
theorem after_result (c : Dev nD) (t : Fin cfg0.N) :
    (dats m 0 c).after 2 t = outBlock (points m c t) (k0_pay11 (centroids m c)) (k0_pay12 (centroids m c)) := by dsimp only [dats]

theorem before_points (c : Dev nD) (t : Fin cfg0.N) (d) : (dats m 0 c).before 0 t d = iblk m c 0 t :=
  before0_0_of m (dats m 0 c) (A_eq m c 0) (after_points m c) t d
theorem before_centroids (c : Dev nD) (t : Fin cfg0.N) (d) : (dats m 0 c).before 1 t d = iblk m c 1 t :=
  before0_1_of m (dats m 0 c) (A_eq m c 1) (after_centroids m c) t d

/-- After any point the tables are carried. -/
theorem inv_succ (c : Dev nD) (t : Fin cfg0.N) : (dats m 0 c).Φ t.succ = carried m c := by
  dsimp only [dats]; rw [if_neg (by simp)]

/-- Before the first point the scratch holds anything; before a later one the tables are carried. -/
theorem inv_first (c : Dev nD) (t : Fin cfg0.N) (h : t.val = 0) : (dats m 0 c).Φ t.castSucc = Pipeline.ΦA spec0 c := by
  dsimp only [dats]; rw [if_pos (by simpa using h)]
theorem inv_later (c : Dev nD) (t : Fin cfg0.N) (h : ¬ t.val = 0) : (dats m 0 c).Φ t.castSucc = carried m c := by
  dsimp only [dats]; rw [if_neg (by simpa using h)]

/-- What the body is called with at point `t`, window by window. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- What the body returns at point `t`. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

set_option maxHeartbeats 800000 in
/-- The body at any point does what the proof data say: at point 0 by `firstStep`, later by `laterStep`. -/
theorem body_sound (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_points, before_centroids]
  rw [show (dats m 0 c).owesAt () t.succ = (dats m 0 c).owesAt () t.castSucc from rfl,
    after_points, after_centroids, after_result, inv_succ, iblk_centroids]
  by_cases h0 : t.val = 0
  · rw [inv_first m c t h0, fresh_eq]
    iintro ⟨⟨⟨HS0, HS1⟩, Hg⟩, Ho, ⟨%d0, H0⟩, ⟨%d1, H1⟩, ⟨%d2, H2⟩⟩
    iapply (firstStep c (grid0.coords t) _ _ _ _ _ _ _ _ _ _ ((atStart_iff t).mpr h0) (points m c t) (centroids m c) _)
    isplitl [H0]; · iexact H0
    isplitl [H1]; · iexact H1
    isplitl [H2]; · iexists _; iexact H2
    isplitl [HS0]; · iexact HS0
    isplitl [HS1]; · iexact HS1
    iintro ⟨H0, H1, H2, HS0, HS1⟩
    unfold carried
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    iexact H2
  · rw [inv_later m c t h0]
    unfold carried
    iintro ⟨⟨⟨HS0, HS1⟩, Hg⟩, Ho, ⟨%d0, H0⟩, ⟨%d1, H1⟩, ⟨%d2, H2⟩⟩
    iapply (laterStep c (grid0.coords t) _ _ _ _ _ _ _ _ _ _ (fun h => h0 ((atStart_iff t).mp h)) (points m c t) (centroids m c)
      (k0_pay11 (centroids m c)) (k0_pay12 (centroids m c)) _)
    isplitl [H0]; · iexact H0
    isplitl [H1]; · iexact H1
    isplitl [H2]; · iexists _; iexact H2
    isplitl [HS0]; · iexact HS0
    isplitl [HS1]; · iexact HS1
    iintro ⟨H0, H1, H2, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    iexact H2

/-- The body the pipeline calls at point `t` is the kernel on that point's staging buffers. -/
theorem body_row (t : Fin cfg0.N) : defs₀ (F := F) .tc cfg0.body (cfg0.bodyArgs t (cfg0.slots t)) = bodyAt0 t := by
  unfold defs₀; rw [Defs.onTc_tc]

/-- The obligation the launch asks for, at every point. -/
theorem body_obligation (c : Dev nD) : BodyObligation (dats (F := F) m 0 c) (defs₀ (F := F)) Variants.none () Set.univ := fun t => by
  rw [bigSep_W0, bigSep_W0, body_row]
  exact triple_restated (body_sound m c t) rfl .rfl fun _ => .rfl

/-- The invariant holds when the region is entered, and may be forgotten when it is left. -/
theorem inv_entry (c : Dev nD) : Pipeline.ΦA spec0 c ⊢ (dats m 0 c).Φ 0 := by
  dsimp only [dats]; rw [if_pos (by simp)]
theorem inv_exit (c : Dev nD) : (dats m 0 c).Φ (Fin.last cfg0.N) ⊢ Pipeline.ΦA spec0 c := by
  dsimp only [dats]; rw [if_neg (by rw [Fin.val_last]; decide)]; exact carried_fresh m c

set_option backward.isDefEq.respectTransparency.types false in
/-- The run, over any float values: from any memory with zero counters every weakly fair execution of the program ends,
    every window's array at what the proof data say, and every semaphore counter at zero. -/
theorem run_main : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := inv_entry m) (hout := inv_exit m)

/-- The run read at the program's arrays: both arguments end as they were, and the result holds what the pipeline wrote back. -/
theorem run_arrays : θ_run defs (onTc (τ := τ) (main (F := F))) ⟨m, fun _ => 0, ρ⟩
    (fun r => (∀ c : Dev nD,
      r.2.mem ((c.tc : Thread nD τ).loc main_v0) = (dats m 0 c).arrAt (2 : Fin 3) cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => ⟨(h.1 c).1 2,
      ((h.1 c).1 0).trans (((dats m 0 c).arrAt_in 0 rfl _).trans ((A_eq m c 0).trans (V_main_arg0 m c))),
      ((h.1 c).1 1).trans (((dats m 0 c).arrAt_in 1 rfl _).trans ((A_eq m c 1).trans (V_main_arg1 m c)))⟩, h.2⟩) (run_main m ρ)

end Cert.Nearest
-- ==== Proof.FirstMin.lean ====
/-
  The squared distance of two rows of real numbers; the first index of a least value, and two folds that find it: the kernel's (a minimum, then the least index that attains
  it) and the reference's (one pass that keeps the better of two pairs of a value and an index).
-/
module

public import Idealize.ShloMosaic.PureOps
public import Idealize.ShloMosaic.PureOps.Reduce
public import Idealize.ShloMosaic.PureOps.Ideal.Laws

@[expose] public section

noncomputable section

namespace Cert.Nearest

open Idealize.ShloMosaic

/-- The squared distance of two rows of real numbers. -/
def sqDist (x c : Fin 32 → ℝ) : ℝ := ∑ d, (x d - c d) * (x d - c d)

/-- A finite sum of real numbers is one. -/
theorem coe_sum {ι : Type} (s : Finset ι) (f : ι → ℝ) : ((∑ i ∈ s, f i : ℝ) : EReal) = ∑ i ∈ s, (f i : EReal) :=
  map_sum (⟨⟨Real.toEReal, rfl⟩, EReal.coe_add⟩ : ℝ →+ EReal) f s

/-- The pattern of infinity. -/
theorem ofBits_infinity : Ideal.ofBits .f32 2139095040#32 = ⊤ := by
  simp [Ideal.ofBits, Ideal.ieee]

/-- `k` is the first index at which `v` is least: no value is smaller, and none at an earlier index is as small. -/
def FirstMin {α : Type} [LinearOrder α] (v : Fin 1024 → α) (k : Fin 1024) : Prop :=
  ∀ l, v k < v l ∨ (v k = v l ∧ k ≤ l)

/-- There is one. -/
theorem exists_firstMin {α : Type} [LinearOrder α] (v : Fin 1024 → α) : ∃ k, FirstMin v k := by
  obtain ⟨k, hk⟩ := Finite.exists_min fun k => toLex (v k, k)
  exact ⟨k, fun l => by simpa [Prod.Lex.toLex_le_toLex] using hk l⟩

/-- There is only one. -/
theorem FirstMin.unique {α : Type} [LinearOrder α] {v : Fin 1024 → α} {k l : Fin 1024} (hk : FirstMin v k) (hl : FirstMin v l) :
    k = l := by
  rcases hk l with h | ⟨h, hle⟩
  · rcases hl k with h' | ⟨h', _⟩
    · exact absurd h (not_lt_of_gt h')
    · exact absurd h (by rw [h']; exact lt_irrefl _)
  · rcases hl k with h' | ⟨_, hle'⟩
    · exact absurd h' (by rw [h]; exact lt_irrefl _)
    · exact le_antisymm hle hle'

/-- The first index of a least value depends only on the order of the values. -/
theorem FirstMin.congr {α β : Type} [LinearOrder α] [LinearOrder β] {v : Fin 1024 → α} {w : Fin 1024 → β} {k : Fin 1024}
    (h : ∀ i j, v i < v j ↔ w i < w j) (hk : FirstMin v k) : FirstMin w k := fun l => by
  rcases hk l with h' | ⟨h', hle⟩
  · exact .inl ((h k l).mp h')
  · refine .inr ⟨le_antisymm (not_lt.mp fun hlt => ?_) (not_lt.mp fun hlt => ?_), hle⟩
    · exact absurd ((h l k).mpr hlt) (by rw [h']; exact lt_irrefl _)
    · exact absurd ((h k l).mpr hlt) (by rw [h']; exact lt_irrefl _)

/-- A fold over all indices is the value at `k` when that value absorbs every other and the initial one. -/
theorem fold_eq_of_absorbs {α : Type} (op : α → α → α) [Std.Commutative op] [Std.Associative op] (b : α) (f : Fin 1024 → α)
    (k : Fin 1024) (hb : op (f k) b = f k) (h : ∀ l, op (f k) (f l) = f k) : Finset.univ.fold op b f = f k := by
  have absorbs : ∀ s : Finset (Fin 1024), op (f k) (s.fold op b f) = f k := fun s => by
    induction s using Finset.induction_on with
    | empty => simpa using hb
    | insert a s ha ih => rw [Finset.fold_insert ha, ← Std.Associative.assoc (op := op), h a, ih]
  rw [← Finset.insert_erase (Finset.mem_univ k), Finset.fold_insert (Finset.notMem_erase k _), absorbs]

/-- The fold of minimum from infinity is the value at the first index of a least value. -/
theorem fold_min_eq (v : Fin 1024 → EReal) (k : Fin 1024) (hk : FirstMin v k) : Finset.univ.fold min ⊤ v = v k :=
  fold_eq_of_absorbs min ⊤ v k (min_eq_left le_top) fun l => min_eq_left (by
    rcases hk l with h | ⟨h, _⟩
    · exact le_of_lt h
    · exact le_of_eq h)

/-- The word of an index below 1025, read as a signed number, is the index. -/
theorem toInt_ofNat (k : ℕ) (h : k < 1025) : (BitVec.ofNat 32 k).toInt = k := by
  rw [BitVec.toInt_eq_toNat_of_lt (by simp only [BitVec.toNat_ofNat]; omega), BitVec.toNat_ofNat, Nat.mod_eq_of_lt (by omega)]

/-- The lesser of two words, as signed numbers, is the first if it is not above the second. -/
theorem minsi_eq_left (a b : BitVec 32) (h : a.toInt ≤ b.toInt) : IntOp.minsi a b = a := by
  unfold IntOp.minsi
  simp only [BitVec.slt_eq_decide, decide_eq_true_eq]
  split
  · rfl
  · exact BitVec.eq_of_toInt_eq (by omega)

/-- The kernel's search: the least word among the indices whose value is the minimum is the first such index. -/
theorem fold_minsi_eq (v : Fin 1024 → EReal) (k : Fin 1024) (hk : FirstMin v k) (m : EReal) (hm : m = v k) :
    Finset.univ.fold IntOp.minsi 2147483647#32 (fun l : Fin 1024 => if v l = m then BitVec.ofNat 32 l.val else 1024#32)
      = BitVec.ofNat 32 k.val := by
  subst hm
  have hk' : (BitVec.ofNat 32 k.val).toInt = k.val := toInt_ofNat _ (by omega)
  refine (fold_eq_of_absorbs IntOp.minsi 2147483647#32 _ k ?_ fun l => ?_).trans ?_
  · rw [if_pos rfl]
    exact minsi_eq_left _ _ (by rw [hk']; simp; omega)
  · rw [if_pos rfl]
    refine minsi_eq_left _ _ ?_
    rw [hk']
    split
    · next h =>
      rw [toInt_ofNat _ (by omega)]
      rcases hk l with h' | ⟨_, hle⟩
      · exact absurd h' (by rw [h]; exact lt_irrefl _)
      · exact_mod_cast hle
    · rw [toInt_ofNat 1024 (by omega)]; omega
  · rw [if_pos rfl]

/-- A pass over a list of indices that keeps, of the pair kept and the next, the one with the smaller value, and of two equal
    values the one with the smaller index, ends with a pair that is no worse than any it saw, and that it saw. -/
theorem foldl_keeps_best {ι : Type} (f : EReal × BitVec 32 → EReal × BitVec 32 → EReal × BitVec 32)
    (hf : ∀ p q, f p q = if p.1 < q.1 ∨ (p.1 = q.1 ∧ p.2.toInt < q.2.toInt) then p else q) (g : ι → EReal × BitVec 32) :
    ∀ (L : List ι) (p : EReal × BitVec 32),
      (L.foldl (fun p i => f p (g i)) p = p ∨ ∃ i ∈ L, L.foldl (fun p i => f p (g i)) p = g i)
        ∧ ∀ q, (q = p ∨ ∃ i ∈ L, q = g i) →
          (L.foldl (fun p i => f p (g i)) p).1 < q.1
            ∨ ((L.foldl (fun p i => f p (g i)) p).1 = q.1 ∧ (L.foldl (fun p i => f p (g i)) p).2.toInt ≤ q.2.toInt)
  | [], p => ⟨.inl rfl, by rintro q (rfl | ⟨i, hi, _⟩); exacts [.inr ⟨rfl, le_rfl⟩, absurd hi (by simp)]⟩
  | a :: L, p => by
    obtain ⟨h1, h2⟩ := foldl_keeps_best f hf g L (f p (g a))
    rw [List.foldl_cons]
    generalize List.foldl (fun p i => f p (g i)) (f p (g a)) L = z at h1 h2
    have hstep : f p (g a) = p ∨ f p (g a) = g a := by rw [hf]; split <;> simp
    have hz := h2 _ (.inl rfl)
    constructor
    · rcases h1 with h | ⟨i, hi, h⟩
      · rcases hstep with h' | h'
        · exact .inl (h.trans h')
        · exact .inr ⟨a, by simp, h.trans h'⟩
      · exact .inr ⟨i, by simp [hi], h⟩
    · have trans : ∀ q : EReal × BitVec 32, ((f p (g a)).1 < q.1 ∨ ((f p (g a)).1 = q.1 ∧ (f p (g a)).2.toInt ≤ q.2.toInt)) →
          (z.1 < q.1 ∨ (z.1 = q.1 ∧ z.2.toInt ≤ q.2.toInt)) := by
        intro q hq
        rcases hz with h | ⟨h, hle⟩
        · rcases hq with h' | ⟨h', _⟩
          · exact .inl (h.trans h')
          · exact .inl (h' ▸ h)
        · rcases hq with h' | ⟨h', hle'⟩
          · exact .inl (h ▸ h')
          · exact .inr ⟨h.trans h', hle.trans hle'⟩
      have hboth : ∀ q, q = p ∨ q = g a →
          ((f p (g a)).1 < q.1 ∨ ((f p (g a)).1 = q.1 ∧ (f p (g a)).2.toInt ≤ q.2.toInt)) := by
        intro q hq
        rw [hf]
        split
        · next h =>
          rcases hq with rfl | rfl
          · exact .inr ⟨rfl, le_rfl⟩
          · rcases h with h | ⟨h, hle⟩
            exacts [.inl h, .inr ⟨h, le_of_lt hle⟩]
        · next h =>
          rcases hq with rfl | rfl
          · push Not at h
            rcases lt_or_eq_of_le h.1 with h' | h'
            exacts [.inl h', .inr ⟨h', h.2 h'.symm⟩]
          · exact .inr ⟨rfl, le_rfl⟩
      rintro q (rfl | ⟨i, hi, rfl⟩)
      · exact trans _ (hboth _ (.inl rfl))
      · rcases List.mem_cons.mp hi with rfl | hi
        · exact trans _ (hboth _ (.inr rfl))
        · exact h2 _ (.inr ⟨i, hi, rfl⟩)

/-- The indices a reduction of pairs of a value and an index ends with. -/
def bestIndex {s t u : Shape} {axes : List (Fin s.rank)} {φ : FTy} (f : EReal × BitVec 32 → EReal × BitVec 32 → EReal × BitVec 32)
    (x : FVec Ideal s φ) (y : s.Idx → BitVec 32) (ix : u.Idx → Ideal φ) (iy : u.Idx → BitVec 32) (h : s.ReducesTo axes t)
    (hu : 0 < u.numel) : t.Idx → BitVec 32 :=
  fun j => (Host.argReduce (F := Ideal) (φ := φ) f x y ix iy h hu j).2

/-- Those indices, written out. -/
theorem bestIndex_eq {s t u : Shape} {axes : List (Fin s.rank)} {φ : FTy} (f : EReal × BitVec 32 → EReal × BitVec 32 → EReal × BitVec 32)
    (x : FVec Ideal s φ) (y : s.Idx → BitVec 32) (ix : u.Idx → Ideal φ) (iy : u.Idx → BitVec 32) (h : s.ReducesTo axes t)
    (hu : 0 < u.numel) : bestIndex f x y ix iy h hu = fun j => (Host.argReduce (F := Ideal) (φ := φ) f x y ix iy h hu j).2 := rfl

/-- So a reduction of pairs with such a choice ends, at each result index, with the best of the pairs that reduce to it and
    the initial one. -/
theorem bestIndex_spec {s t u : Shape} {axes : List (Fin s.rank)} {φ : FTy} (f : EReal × BitVec 32 → EReal × BitVec 32 → EReal × BitVec 32)
    (hf : ∀ p q, f p q = if p.1 < q.1 ∨ (p.1 = q.1 ∧ p.2.toInt < q.2.toInt) then p else q)
    (x : FVec Ideal s φ) (y : s.Idx → BitVec 32) (ix : u.Idx → Ideal φ) (iy : u.Idx → BitVec 32) (h : s.ReducesTo axes t)
    (hu : 0 < u.numel) (j : t.Idx) :
    ∃ z : EReal × BitVec 32, bestIndex f x y ix iy h hu j = z.2
      ∧ (z = (ix (Shape.Idx.first hu), iy (Shape.Idx.first hu)) ∨ ∃ i, h.drop i = j ∧ z = (x i, y i))
      ∧ ∀ i, h.drop i = j → (z.1 < x i ∨ (z.1 = x i ∧ z.2.toInt ≤ (y i).toInt)) := by
  refine ⟨_, by rw [bestIndex, Ideal.argReduce_eq_reduce2], ?_⟩
  unfold Host.reduce2
  have mem : ∀ n, n ∈ ((List.finRange s.numel).filter fun n => h.drop (s.rowMajor.symm n) = j) ↔ h.drop (s.rowMajor.symm n) = j :=
    fun n => by simp
  generalize ((List.finRange s.numel).filter fun n => h.drop (s.rowMajor.symm n) = j) = L at mem
  obtain ⟨h1, h2⟩ := foldl_keeps_best f hf (fun n => (x (s.rowMajor.symm n), y (s.rowMajor.symm n))) L
    (ix (Shape.Idx.first hu), iy (Shape.Idx.first hu))
  refine ⟨h1.imp id fun ⟨n, hn, e⟩ => ⟨_, (mem n).mp hn, e⟩, fun i hi => ?_⟩
  exact h2 (x i, y i) (.inr ⟨s.rowMajor i, (mem _).mpr (by rw [Equiv.symm_apply_apply]; exact hi), by rw [Equiv.symm_apply_apply]⟩)

end Cert.Nearest

end
-- ==== Proof.Block.lean ====
/-
  The kernel's block over the extended reals, when every entry of the points and of the centroids is a real number: what
  is stored for a point is the index of the first nearest centroid.
-/
module

public import proofs.«01_k».proof.Proof.Gen.KernelIdeal.Skeleton
public import proofs.«01_k».proof.Proof.Step
public import proofs.«01_k».proof.Proof.FirstMin
public import Idealize.ShloMosaic.Lib.Pointwise

@[expose] public section

set_option maxRecDepth 16384

noncomputable section

namespace Cert.Nearest

open Cert.KernelIdeal Cert.KernelIdeal.Gen
open Idealize.ShloMosaic Idealize.ShloMosaic.TcCoe

/-- What the kernel minimizes in its place: the squared distance less the point's own square. -/
def sqNear (x c : Fin 32 → ℝ) : ℝ := (∑ d, -2 * x d * c d) + ∑ d, c d * c d

/-- The two differ by the point's own square, so they order the centroids alike. -/
theorem sqNear_lt_iff (x c c' : Fin 32 → ℝ) : sqNear x c < sqNear x c' ↔ sqDist x c < sqDist x c' := by
  have h : ∀ c, sqDist x c = sqNear x c + ∑ d, x d * x d := fun c => by
    unfold sqDist sqNear
    rw [← Finset.sum_add_distrib, ← Finset.sum_add_distrib]
    exact Finset.sum_congr rfl fun d _ => by ring
  rw [h c, h c', add_lt_add_iff_right]

/-- The pattern of the factor minus two. -/
theorem ofBits_minus_two : Ideal.ofBits .f32 3221225472#32 = ((-2 : ℝ) : EReal) := by
  simp [Ideal.ofBits, Ideal.ieee, -EReal.coe_mul]; norm_num

/-- A sum over the 99 columns of a table, piece by piece. -/
theorem sum_pieces (f : Fin 99 → EReal) :
    ∑ i, f i = (∑ d : Fin 32, f ⟨d.val, by omega⟩) + ((∑ d : Fin 32, f ⟨32 + d.val, by omega⟩)
      + ((∑ d : Fin 32, f ⟨64 + d.val, by omega⟩) + (f ⟨96, by omega⟩ + f ⟨97, by omega⟩ + f ⟨98, by omega⟩))) := by
  rw [show ∑ i, f i = ∑ i : Fin (32 + (32 + (32 + 3))), f i from rfl, Fin.sum_univ_add, Fin.sum_univ_add, Fin.sum_univ_add,
    Fin.sum_univ_three]
  rfl

variable (X C : FVec Ideal S1024x32 .f32) (x c : Fin 1024 → Fin 32 → ℝ)
  (hX : ∀ r d, X (ix2 r d) = ((x r d : ℝ) : EReal)) (hC : ∀ k d, C (ix2 k d) = ((c k d : ℝ) : EReal))

include hX hC in
/-- The approximate distances: each is the squared distance less the point's own square. -/
theorem approx_at (r k : Fin 1024) :
    k0_pay13 (F := Ideal) X (k0_pay11 (F := Ideal) C) (ix2 r k) = ((sqNear (x r) (c k) : ℝ) : EReal) := by
  pointwise [k0_pay13, k0_pay11]
  rw [sum_pieces]
  have e1 : ∀ d : Fin 32, 32 + d.val - 32 = d.val := fun d => by omega
  have e2 : ∀ d : Fin 32, 64 + d.val - 32 - 32 = d.val := fun d => by omega
  simp (disch := omega) only [dif_pos, dif_neg, e1, e2, Fin.eta]
  simp only [hX, hC, ofBits_minus_two, ← EReal.coe_mul, ← EReal.coe_sub, ← coe_sum, sub_self, mul_zero, zero_mul,
    Finset.sum_const_zero, EReal.coe_zero, one_mul, sub_zero, add_zero, zero_add, ← EReal.coe_add]
  rfl

/-- The first candidate, in the terms of the approximate distances. -/
theorem first_at (b : FVec Ideal S1024x99 .bf16) (r k : Fin 1024)
    (hk : FirstMin (fun k => k0_pay13 (F := Ideal) X b (ix2 r k)) k) :
    k0_pay15 (F := Ideal) X b (ix2 r 0) = BitVec.ofNat 32 k.val := by
  pointwise [k0_pay15, k0_pay14]
  rw [ofBits_infinity, fold_min_eq _ k hk]
  exact fold_minsi_eq _ k hk _ rfl

/-- The second candidate is the index of some centroid. -/
theorem second_at (near : FVec Ideal S1024x1024 .f32) (first : IVec S1024x1 32) (r : Fin 1024) :
    ∃ l : Fin 1024, k0_pay1 (F := Ideal) near cols first (ix2 r 0) = BitVec.ofNat 32 l.val := by
  pointwise [k0_pay1, cols]
  rw [ofBits_infinity]
  obtain ⟨l, hl⟩ := exists_firstMin fun l : Fin 1024 =>
    (Scalar.select (IntOp.cmpi CmpIPredicate.eq (BitVec.ofNat 32 l.val) (first (ix2 r 0))) ⊤ (near (ix2 r l)) : EReal)
  refine ⟨l, ?_⟩
  rw [fold_min_eq _ l hl]
  exact fold_minsi_eq _ l hl _ rfl

/-- The word that marks a column, as a number. -/
theorem mark (l k : Fin 1024) : (FloatOps.sitofp (F := Ideal) FTy.f32
    (BitVec.setWidth 32 (IntOp.cmpi CmpIPredicate.eq (BitVec.ofNat 32 l.val) (BitVec.ofNat 32 k.val))) : EReal)
      = if l = k then 1 else 0 := by
  show (((BitVec.setWidth 32 (BitVec.ofBool (BitVec.ofNat 32 l.val == BitVec.ofNat 32 k.val))).toInt : ℝ) : EReal) = _
  have h : (BitVec.ofNat 32 l.val == BitVec.ofNat 32 k.val) = decide (l = k) := by
    rw [Bool.eq_iff_iff, beq_iff_eq, decide_eq_true_eq]
    refine ⟨fun h => Fin.ext ?_, fun h => by rw [h]⟩
    have := congrArg BitVec.toInt h
    rw [toInt_ofNat _ (by omega), toInt_ofNat _ (by omega)] at this
    exact_mod_cast this
  rw [h]
  by_cases e : l = k
  · simp [e]
  · simp [e]

include hX hC in
/-- The squared differences of a point and the centroid whose index is given, coordinate by coordinate: the product with the
    marks of that index reads the centroid out of the table. -/
theorem diff1_at (first : IVec S1024x1 32) (r k : Fin 1024) (hk : first (ix2 r 0) = BitVec.ofNat 32 k.val) (d : Fin 32) :
    k0_pay3 (F := Ideal) X cols first (k0_pay12 (F := Ideal) C) (ix2 d r)
      = (((x r d - c k d) * (x r d - c k d) : ℝ) : EReal) := by
  pointwise [k0_pay3, k0_pay2, k0_pay12, cols]
  have e2 : 64 + d.val - 32 - 32 = d.val := by omega
  simp (disch := omega) only [dif_pos, dif_neg, e2, Fin.eta]
  simp only [hk, mark, hX, hC, mul_ite, mul_one, mul_zero, Finset.sum_ite_eq', Finset.mem_univ, if_true, ← EReal.coe_sub,
    sub_self, EReal.coe_zero, sub_zero, add_zero, ← EReal.coe_mul]

/-- The second candidate's squared differences are computed as the first one's are. -/
theorem diff2_eq (near : FVec Ideal S1024x1024 .f32) (first : IVec S1024x1 32) (g : FVec Ideal S1024x96 .bf16) :
    k0_pay4 (F := Ideal) X near cols first g = k0_pay3 (F := Ideal) X cols (k0_pay1 near cols first) g := by
  simp only [k0_pay4, k0_pay3]

/-- So is the start of their sum. -/
theorem start2_eq (near : FVec Ideal S1024x1024 .f32) (first : IVec S1024x1 32) (g : FVec Ideal S1024x96 .bf16) :
    k0_pay6 (F := Ideal) X near cols first g = k0_pay5 (F := Ideal) X cols (k0_pay1 near cols first) g := by
  simp only [k0_pay6, k0_pay5, diff2_eq]

/-- And so is its rest. -/
theorem rows2_eq (d : FVec Ideal S32x1024 .f32) (e : FVec Ideal S1x1024 .f32) :
    k0_pay10 (F := Ideal) d (k0_pay8 (F := Ideal) d e) = k0_pay9 (F := Ideal) d (k0_pay7 (F := Ideal) d e) := by
  simp only [k0_pay10, k0_pay9, k0_pay8, k0_pay7]

/-- The sum, one row after another, is the sum over the 32 coordinates. -/
theorem rows_at (first : IVec S1024x1 32) (g : FVec Ideal S1024x96 .bf16) (r : Fin 1024) (s : Fin 32 → ℝ)
    (hs : ∀ d, k0_pay3 (F := Ideal) X cols first g (ix2 d r) = ((s d : ℝ) : EReal)) :
    k0_pay9 (F := Ideal) (k0_pay3 (F := Ideal) X cols first g)
      (k0_pay7 (F := Ideal) (k0_pay3 (F := Ideal) X cols first g) (k0_pay5 (F := Ideal) X cols first g)) (ix2 0 r)
      = ((∑ d, s d : ℝ) : EReal) := by
  pointwise [k0_pay9, k0_pay7, k0_pay5]
  simp only [hs]
  rw [coe_sum]
  iterate 32 rw [Fin.sum_univ_castSucc]
  rw [Fin.sum_univ_zero, zero_add]
  rfl

include hX hC in
/-- What is stored for a point is the first nearest centroid, whichever branch stores it. In the branch that compares two
    candidates the first is nearest, so the second is at best as near, and then it comes later. -/
theorem outBlock_at (r k : Fin 1024) (hk : FirstMin (fun k => sqDist (x r) (c k)) k) :
    outBlock (F := Ideal) X (k0_pay11 (F := Ideal) C) (k0_pay12 (F := Ideal) C) (ix1 r) = BitVec.ofNat 32 k.val := by
  have hfirst : k0_pay15 (F := Ideal) X (k0_pay11 (F := Ideal) C) (ix2 r 0) = BitVec.ofNat 32 k.val := by
    refine first_at X _ r k (hk.congr fun i j => ?_)
    rw [approx_at X C x c hX hC, approx_at X C x c hX hC, EReal.coe_lt_coe_iff, sqNear_lt_iff]
  rcases outBlock_cases (F := Ideal) X (k0_pay11 (F := Ideal) C) (k0_pay12 (F := Ideal) C) with ⟨_, h⟩ | ⟨_, h⟩
  · rw [h]
    obtain ⟨l, hl⟩ := second_at (k0_pay13 (F := Ideal) X (k0_pay11 (F := Ideal) C)) (k0_pay15 (F := Ideal) X (k0_pay11 (F := Ideal) C)) r
    pointwise [k0_pay19, refined, k0_pay17]
    rw [diff2_eq, start2_eq, rows2_eq, rows_at X _ _ r _ (diff1_at X C x c hX hC _ r k hfirst),
      rows_at X _ _ r _ (diff1_at X C x c hX hC _ r l hl), hfirst, hl]
    rcases hk l with hlt | ⟨heq, hle⟩
    · exact if_pos (EReal.coe_lt_coe_iff.mpr hlt)
    · have heq' : sqDist (x r) (c k) = sqDist (x r) (c l) := heq
      unfold sqDist at heq'
      rw [heq', if_neg (lt_irrefl _), if_neg (lt_irrefl _)]
      refine minsi_eq_left _ _ ?_
      rw [toInt_ofNat _ (by omega), toInt_ofNat _ (by omega)]
      exact_mod_cast hle
  · rw [h]
    pointwise [k0_pay19, k0_pay18]
    exact hfirst

end Cert.Nearest

end
-- ==== Proof.Reference.lean ====
/-
  The reference's result over the extended reals, when every entry of both arguments is a real number: at each point the
  index of the first nearest centroid.
-/
module

public import proofs.«01_k».proof.Proof.Gen.ReferenceIdeal
public import proofs.«01_k».proof.Proof.FirstMin
public import Idealize.ShloMosaic.Lib.Pointwise

@[expose] public section

set_option maxRecDepth 16384

noncomputable section

namespace Cert.Nearest

open Cert.ReferenceIdeal Cert.ReferenceIdeal.Gen
open Idealize.ShloMosaic Idealize.ShloMosaic.TcCoe

/-- The reference's table of squared distances. -/
def refTable (X : FVec Ideal S4096x32 .f32) (C : FVec Ideal S1024x32 .f32) : FVec Ideal S4096x1024 .f32 :=
  Host.reduceAdd (Host.powf
    (subf (broadcastInDim S4096x1024x32 ![0, 1, 2] bcast_S4096x1x32_S4096x1024x32_0_1_2
        (broadcastInDim S4096x1x32 ![0, 2] bcast_S4096x32_S4096x1x32_0_2 X))
      (broadcastInDim S4096x1024x32 ![0, 1, 2] bcast_S1x1024x32_S4096x1024x32_0_1_2
        (broadcastInDim S1x1024x32 ![1, 2] bcast_S1024x32_S1x1024x32_1_2 C)))
    (broadcastInDim S4096x1024x32 ![] bcast_S_S4096x1024x32 (constant S_ .f32 1073741824#32)))
    (constant S_ .f32 0#32) reducesTo_S4096x1024x32_S4096x1024_d2 h_S_

/-- The reference's result: for each row of the table, the index its one pass ends with. -/
def refResult (X : FVec Ideal S4096x32 .f32) (C : FVec Ideal S1024x32 .f32) : IVec S4096 32 :=
  bestIndex (φ := .f32) (reducer_argmin_f32_i32 (F := Ideal)) (refTable X C) (iotaInDim S4096x1024 32 1)
    (constant (F := Ideal) S_ .f32 2139095040#32) (constantI S_ 32 0#32) reducesTo_S4096x1024_S4096_d1 h_S_

/-- The pattern of the exponent. -/
theorem ofBits_two : Ideal.ofBits .f32 1073741824#32 = ((2 : ℝ) : EReal) := by
  simp [Ideal.ofBits, Ideal.ieee, -EReal.coe_mul]; norm_num

/-- The table's entries are the squared distances. -/
theorem table_at (X : FVec Ideal S4096x32 .f32) (C : FVec Ideal S1024x32 .f32) (x : Fin 4096 → Fin 32 → ℝ) (c : Fin 1024 → Fin 32 → ℝ)
    (hX : ∀ r d, X (ix2 r d) = ((x r d : ℝ) : EReal)) (hC : ∀ k d, C (ix2 k d) = ((c k d : ℝ) : EReal)) (r : Fin 4096) (k : Fin 1024) :
    refTable X C (ix2 r k) = ((sqDist (x r) (c k) : ℝ) : EReal) := by
  pointwise [refTable]
  unfold sqDist
  rw [ofBits_two, coe_sum]
  refine Finset.sum_congr rfl fun d _ => ?_
  rw [hX, hC, ← EReal.coe_sub]
  show ((Real.rpow (x r d - c k d) 2 : ℝ) : EReal) = _
  rw [← pow_two]
  exact congrArg _ (Real.rpow_two _)

/-- The reference's choice between two pairs: the smaller value, and of two equal values the smaller index. -/
theorem reducer_eq (p q : EReal × BitVec 32) : reducer_argmin_f32_i32 (F := Ideal) p q
    = if p.1 < q.1 ∨ (p.1 = q.1 ∧ p.2.toInt < q.2.toInt) then p else q := by
  obtain ⟨a, i⟩ := p
  obtain ⟨b, j⟩ := q
  unfold reducer_argmin_f32_i32
  pointwise
  by_cases h1 : a < b
  · simp [h1, h1.ne, IntOp.ori, IntOp.andi, Scalar.select]
  · by_cases h2 : a = b
    · subst h2
      by_cases h3 : i.toInt < j.toInt
      · simp [h3, IntOp.ori, IntOp.andi, IntOp.cmpi, Scalar.select, BitVec.slt_eq_decide]
      · simp [h3, IntOp.ori, IntOp.andi, IntOp.cmpi, Scalar.select, BitVec.slt_eq_decide]
    · simp [h1, h2, IntOp.ori, IntOp.andi, Scalar.select]

/-- The table's row `r` is what reduces to result index `r`. -/
theorem row_iff (r : Fin 4096) (i : S4096x1024.Idx) :
    reducesTo_S4096x1024_S4096_d1.drop i = (ix1 r : S4096.Idx) ↔ ∃ l : Fin 1024, (ix2 r l : S4096x1024.Idx) = i :=
  Shape.ReducesTo.fiber_r2_a1 reducesTo_S4096x1024_S4096_d1 (ix1 r) i

/-- The number of column `l`. -/
theorem column_at (r : Fin 4096) (l : Fin 1024) : iotaInDim S4096x1024 32 1 (ix2 r l) = BitVec.ofNat 32 l.val := by
  pointwise

/-- The reference's result at a point is the first nearest centroid. -/
theorem refResult_at (X : FVec Ideal S4096x32 .f32) (C : FVec Ideal S1024x32 .f32) (x : Fin 4096 → Fin 32 → ℝ) (c : Fin 1024 → Fin 32 → ℝ)
    (hX : ∀ r d, X (ix2 r d) = ((x r d : ℝ) : EReal)) (hC : ∀ k d, C (ix2 k d) = ((c k d : ℝ) : EReal)) (r : Fin 4096) (k : Fin 1024)
    (hk : FirstMin (fun k => sqDist (x r) (c k)) k) : refResult X C (ix1 r) = BitVec.ofNat 32 k.val := by
  obtain ⟨z, hz, h1, h2⟩ := bestIndex_spec (φ := .f32) (reducer_argmin_f32_i32 (F := Ideal)) reducer_eq (refTable X C)
    (iotaInDim S4096x1024 32 1) (constant (F := Ideal) S_ .f32 2139095040#32) (constantI S_ 32 0#32)
    reducesTo_S4096x1024_S4096_d1 h_S_ (ix1 r)
  have hres : refResult X C (ix1 r) = z.2 := hz
  have hbest : ∀ l : Fin 1024, z.1 < ((sqDist (x r) (c l) : ℝ) : EReal) ∨ (z.1 = ((sqDist (x r) (c l) : ℝ) : EReal) ∧ z.2.toInt ≤ l.val) := fun l => by
    have := h2 (ix2 r l) ((row_iff r _).mpr ⟨l, rfl⟩)
    rwa [table_at X C x c hX hC, column_at, toInt_ofNat _ (by omega)] at this
  rw [hres]
  clear hz h2 hres
  rcases h1 with rfl | ⟨i, hi, rfl⟩
  · exfalso
    have : (constant (F := Ideal) S_ .f32 2139095040#32 (Shape.Idx.first h_S_) : EReal) = ⊤ := ofBits_infinity
    rcases hbest k with h | ⟨h, _⟩
    · exact absurd h (by dsimp only; rw [this]; exact not_top_lt)
    · exact absurd h (by dsimp only; rw [this]; exact (EReal.coe_ne_top _).symm)
  · obtain ⟨l, rfl⟩ := (row_iff r i).mp hi
    rw [table_at X C x c hX hC, column_at] at hbest
    rw [column_at]
    have hl : FirstMin (fun k => sqDist (x r) (c k)) l := fun l' => by
      have := hbest l'
      rw [toInt_ofNat _ (by omega)] at this
      exact this.imp EReal.coe_lt_coe_iff.mp fun h => ⟨EReal.coe_injective h.1, by exact_mod_cast h.2⟩
    rw [hl.unique hk]

/-- A value of the result's type is stored in the result's buffer as it is. -/
theorem stored (h1 h2 h3) (v : IVec S4096 32) :
    (StableHlo.TRef.of main_v8 h1 h2 h3 : StableHlo.TRef sig ⟨S4096, .i32⟩).toBuf (Val := Elt Ideal) v = v := cast_eq _ _

/-- A table is read from the table's buffer as it is. -/
theorem loaded (h1 h2 h3) (v : FVec Ideal S4096x1024 .f32) :
    (StableHlo.TRef.of main_v7 h1 h2 h3 : StableHlo.TRef sig ⟨S4096x1024, .f32⟩).ofBuf (Val := Elt Ideal) v = v := cast_eq _ _

end Cert.Nearest

end
-- ==== Proof.Value.lean ====
/-
  The result array of the idealized kernel, when every entry of both arguments is a real number: the reference's result.
-/
module

public import proofs.«01_k».proof.Proof.Run
public import proofs.«01_k».proof.Proof.Block
public import proofs.«01_k».proof.Proof.Reference
public import Idealize.ShloMosaic.Lib.Pipeline.ValueKit

@[expose] public section

set_option maxRecDepth 16384

noncomputable section

namespace Cert.Nearest

open Cert.KernelIdeal Cert.KernelIdeal.Gen
open Idealize.ShloMosaic Idealize.ShloMosaic.TcCoe Idealize.SL.Sem
open Idealize.ShloMosaic.Pipeline (Dat)

variable (m : (ℓ : Loc nD τ sig) → Buf (Elt Ideal) ℓ)

/-- At grid point `t` the points' and the result's blocks are the `t`-th ones. -/
theorem blocks : ∀ t : Fin cfg0.N, win0_0.index t = ![t.val, 0] ∧ win0_2.index t = ![t.val] ∧ t.val < 4 :=
  (by decide +kernel : ∀ t : Fin grid0.N, _)

/-- The points in the kernel's memory. -/
abbrev argPoints (c : Dev nD) : FVec Ideal S4096x32 .f32 := m ((c : Thread nD τ).loc main_arg0)
/-- The centroids in the kernel's memory. -/
abbrev argCentroids (c : Dev nD) : FVec Ideal S1024x32 .f32 := m ((c : Thread nD τ).loc main_arg1)

/-- Row `r` of block `t` of the points is row `1024 t + r` of the array. -/
theorem points_at (c : Dev nD) (t : Fin cfg0.N) (r : Fin 1024) (d : Fin 32) (h : t.val * 1024 + r.val < 4096) :
    points (F := Ideal) m c t (ix2 r d) = argPoints m c (ix2 ⟨t.val * 1024 + r.val, h⟩ d) := by
  blk_ext [points, iblk, V, blocks t]

/-- Element `y` of the result's block `t` is element `1024 t + y` of the array. -/
theorem place (t : Fin cfg0.N) (y : S1024.Idx) (h : t.val * 1024 + (y 0).val < 4096) :
    ((cfg0.win 2).blk t).view.emb y = (ix1 ⟨t.val * 1024 + (y 0).val, h⟩ : S4096.Idx) := by
  blk_ext [blocks t]

/-- The array left by the run is any array that holds, at each row of each block, what the kernel stores there. -/
theorem result_of_blocks (c : Dev nD) (G : IVec S4096 32)
    (hG : ∀ (t : Fin cfg0.N) (r : Fin 1024) (h : t.val * 1024 + r.val < 4096),
      outBlock (F := Ideal) (points m c t) (k0_pay11 (centroids m c)) (k0_pay12 (centroids m c)) (ix1 r)
        = G (ix1 ⟨t.val * 1024 + r.val, h⟩)) :
    (dats (F := Ideal) m 0 c).arrAt (2 : Fin 3) cfg0.N = G := by
  refine (dats (F := Ideal) m 0 c).arrAt_eq_of_covers (2 : Fin 3) G (by decide +kernel) fun t _ y => ?_
  rw [after_result]
  have hB := hG t
  clear hG
  generalize outBlock (F := Ideal) (points m c t) (k0_pay11 (centroids m c)) (k0_pay12 (centroids m c)) = B at hB ⊢
  have ht := (blocks t).2.2
  rw [cast_eq]
  have hy : t.val * 1024 + ((show S1024.Idx from y) 0).val < 4096 := by
    have := ((show S1024.Idx from y) 0).isLt
    have h1 : S1024.size 0 = 1024 := rfl
    omega
  refine Eq.trans ?_ (congrArg G (place t y hy).symm)
  refine Eq.trans ?_ (hB ((show S1024.Idx from y) 0) hy)
  exact congrArg B (eq_ix1 (show S1024.Idx from y))

/-- The array left by the run is the reference's result: both are, at each point, the first nearest centroid. -/
theorem result_eq (c : Dev nD) (x : Fin 4096 → Fin 32 → ℝ) (cs : Fin 1024 → Fin 32 → ℝ)
    (hX : ∀ r d, argPoints m c (ix2 r d) = ((x r d : ℝ) : EReal)) (hC : ∀ k d, argCentroids m c (ix2 k d) = ((cs k d : ℝ) : EReal)) :
    (dats (F := Ideal) m 0 c).arrAt (2 : Fin 3) cfg0.N = refResult (argPoints m c) (argCentroids m c) := by
  refine result_of_blocks m c _ fun t r h => ?_
  obtain ⟨k, hk⟩ := exists_firstMin fun k => sqDist (x ⟨t.val * 1024 + r.val, h⟩) (cs k)
  rw [refResult_at (argPoints m c) (argCentroids m c) x cs hX hC ⟨t.val * 1024 + r.val, h⟩ k hk]
  have ht := (blocks t).2.2
  exact outBlock_at (points m c t) (centroids m c) (fun r d => x ⟨t.val * 1024 + r.val, by omega⟩ d) cs
    (fun r d => (points_at m c t r d (by omega)).trans (hX _ d)) hC r k hk

end Cert.Nearest

end
-- ==== Proof.Finite.lean ====
/-
  The precondition read: every entry of both arguments is a real number.
-/
module

public import proofs.«01_k».proof.Proof.Gen.Pre_finite
public import proofs.«01_k».proof.Proof.FirstMin
public import Idealize.ShloMosaic.Lib.Pointwise

@[expose] public section

set_option maxRecDepth 16384

noncomputable section

namespace Cert.Nearest

open Cert.Pre_finite Cert.Pre_finite.Gen
open Idealize.ShloMosaic Idealize.ShloMosaic.TcCoe

/-- The pattern of minus infinity. -/
theorem ofBits_minus_infinity : Ideal.ofBits .f32 4286578688#32 = ⊥ := by
  simp [Ideal.ofBits, Ideal.ieee]

/-- An extended real strictly between the infinities is a real number. -/
theorem real_of_between (v : EReal) (h : IntOp.andi (BitVec.ofBool (decide (⊥ < v))) (BitVec.ofBool (decide (v < ⊤))) = 1#1) :
    v = ((v.toReal : ℝ) : EReal) := by
  refine (EReal.coe_toReal (fun e => ?_) fun e => ?_).symm
  · subst e; simp [IntOp.andi] at h
  · subst e; simp [IntOp.andi] at h

/-- Where the precondition's first result is all ones, every entry of the first argument is a real number. -/
theorem points_real (X : FVec Ideal S4096x32 .f32) (C : FVec Ideal S1024x32 .f32) (h : (fn (F := Ideal) X C).1 = fun _ => 1#1)
    (r : Fin 4096) (d : Fin 32) : X (ix2 r d) = (((X (ix2 r d)).toReal : ℝ) : EReal) := by
  have hi := congrFun h (ix2 r d)
  pointwise [fn] at hi
  rw [ofBits_minus_infinity, ofBits_infinity] at hi
  exact real_of_between _ hi

/-- Where its second result is all ones, every entry of the second argument is a real number. -/
theorem centroids_real (X : FVec Ideal S4096x32 .f32) (C : FVec Ideal S1024x32 .f32) (h : (fn (F := Ideal) X C).2 = fun _ => 1#1)
    (k : Fin 1024) (d : Fin 32) : C (ix2 k d) = (((C (ix2 k d)).toReal : ℝ) : EReal) := by
  have hi := congrFun h (ix2 k d)
  pointwise [fn] at hi
  rw [ofBits_minus_infinity, ofBits_infinity] at hi
  exact real_of_between _ hi

end Cert.Nearest

end
-- ==== Proof.lean ====
/-
  The proof of `Cert.Claim`: the three programs run to completion from any memory, leaving their arguments unchanged and
  every semaphore counter at zero, and, when every entry of both arguments is finite, the idealized kernel and the idealized
  reference end with the same result.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_finite
public import proofs.«01_k».proof.Proof.Run
public import proofs.«01_k».proof.Proof.Value
public import proofs.«01_k».proof.Proof.Finite
public import Idealize.ShloMosaic.Lib.Claim

@[expose] public section

set_option maxRecDepth 16384

noncomputable section

namespace Cert.Proof

open Idealize.ShloMosaic Idealize.SL.Sem

set_option backward.isDefEq.respectTransparency.types false in
/-- The two programs call the same body. -/
theorem bodies_eq : Cert.KernelIdeal.defs₀ (F := Bits) = Cert.Kernel.defs₀ (F := Bits) := by
  unfold Cert.KernelIdeal.defs₀ Cert.Kernel.defs₀
  refine congrArg _ ?_
  funext ℓ x
  match ℓ, x with
  | 0, (_, _) => rfl

/-- The two programs have the same definitions. -/
theorem defs_eq : Cert.KernelIdeal.defs (F := Bits) = Cert.Kernel.defs (F := Bits) := by
  unfold Cert.KernelIdeal.defs Cert.Kernel.defs
  rw [bodies_eq]
  rfl

/-- The kernel over bit patterns: the run over any float values, taken there (the two programs have the same text). -/
theorem frame_kernel : Cert.quiescent_Kernel := fun m ρ _ => by
  rw [← defs_eq]
  exact (θ_run Cert.KernelIdeal.defs _ _).mono (fun _ h => ⟨fun c => (h.1 c).2, h.2⟩)
    (Cert.Nearest.run_arrays (F := Bits) m ρ)

/-- The idealized kernel: the same run over extended reals. -/
theorem frame_kernelIdeal : Cert.quiescent_KernelIdeal := fun m ρ _ =>
  (θ_run Cert.KernelIdeal.defs _ _).mono (fun _ h => ⟨fun c => (h.1 c).2, h.2⟩) (Cert.Nearest.run_arrays (F := Ideal) m ρ)

/-- The idealized reference: a straight line of host operations. -/
theorem frame_referenceIdeal : Cert.quiescent_ReferenceIdeal := by
  intro m ρ _
  hlo_run
  all_goals first
    | exact fun _ => ⟨trivial, trivial⟩
    | exact sem_eq_zero_of_no_sems (by decide) _

/-- When every entry of both arguments is finite, the idealized kernel and the idealized reference end with the same result. -/
theorem algebraic : Cert.algebraic_KernelIdeal_ReferenceIdeal_pre_finite := by
  intro m g m' g' hpre hagree
  refine ⟨fun c => (Cert.Nearest.dats (F := Ideal) m 0 c).arrAt (2 : Fin 3) Cert.KernelIdeal.cfg0.N,
    (θ_run Cert.KernelIdeal.defs _ _).mono (fun _ h => h.1) (Cert.Nearest.run_arrays (F := Ideal) m g), ?_⟩
  hlo_run
  refine Eq.trans ?_ (Cert.Nearest.result_eq m _ _ _ (Cert.Nearest.points_real _ _ (hpre _).1) (Cert.Nearest.centroids_real _ _ (hpre _).2)).symm
  unfold Cert.Nearest.refResult
  rw [Cert.Nearest.bestIndex_eq, Cert.Nearest.stored, Cert.Nearest.loaded]
  simp only [StableHlo.TRef.ofBuf_toBuf]
  unfold Cert.Nearest.refTable Cert.Nearest.argPoints Cert.Nearest.argCentroids
  rfl

/-- All the claims. -/
theorem claim : Cert.Claim := ⟨Cert.Kernel.Gen.facts, Cert.KernelIdeal.Gen.facts, Cert.ReferenceIdeal.Gen.facts, Cert.Pre_finite.Gen.facts,
  frame_kernel, frame_kernelIdeal, fun m ρ _ => frame_kernelIdeal m ρ trivial, frame_referenceIdeal,
  fun m ρ _ => frame_referenceIdeal m ρ trivial, trivial, algebraic⟩

end Cert.Proof

end
